-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_below_infinity [hPre_logits_below_infinity : Cert.Pre_logits_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_logits_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_below_infinity [hPre_logits_below_infinity : Cert.Pre_logits_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_logits_below_infinity [hKernelIdeal : Cert.KernelIdeal.Facts] [hPre_logits_below_infinity : Cert.Pre_logits_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_logits_below_infinity [hReferenceIdeal : Cert.ReferenceIdeal.Facts] [hPre_logits_below_infinity : Cert.Pre_logits_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_logits_below_infinity [hKernelIdeal : Cert.KernelIdeal.Facts] [hReferenceIdeal : Cert.ReferenceIdeal.Facts] [hPre_logits_below_infinity : Cert.Pre_logits_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_logits_below_infinity : Cert.Pre_logits_below_infinity.Facts),
    quiescent_Kernel (hKernel := hKernel)
    ∧ quiescent_KernelIdeal (hKernelIdeal := hKernelIdeal)
    ∧ quiescent_KernelIdeal_pre_logits_below_infinity (hKernelIdeal := hKernelIdeal) (hPre_logits_below_infinity := hPre_logits_below_infinity)
    ∧ quiescent_ReferenceIdeal (hReferenceIdeal := hReferenceIdeal)
    ∧ quiescent_ReferenceIdeal_pre_logits_below_infinity (hReferenceIdeal := hReferenceIdeal) (hPre_logits_below_infinity := hPre_logits_below_infinity)
    ∧ preserves_Kernel_KernelIdeal
    ∧ algebraic_KernelIdeal_ReferenceIdeal_pre_logits_below_infinity (hKernelIdeal := hKernelIdeal) (hReferenceIdeal := hReferenceIdeal) (hPre_logits_below_infinity := hPre_logits_below_infinity)
-- ==== Pre_logits_below_infinity.lean ====
abbrev S32x512x4096 : Shape := ⟨3, ![32, 512, 4096]⟩
abbrev S512x64 : Shape := ⟨2, ![512, 64]⟩
abbrev S64 : Shape := ⟨1, ![64]⟩
abbrev S64x512 : Shape := ⟨2, ![64, 512]⟩
abbrev S32x4096x512 : Shape := ⟨3, ![32, 4096, 512]⟩
abbrev S32x4096x64 : Shape := ⟨3, ![32, 4096, 64]⟩
abbrev S1x1x64 : Shape := ⟨3, ![1, 1, 64]⟩
abbrev S_ : Shape := ⟨0, ![]⟩

class Facts : Prop where
  transposes_S32x512x4096_S32x4096x512_0_2_1 : S32x512x4096.Transposes [0, 2, 1] S32x4096x512
  bcast_S64_S1x1x64_2 : S64.BroadcastsInDim S1x1x64 (![2] : Fin 1 → Fin S1x1x64.rank)
  bcast_S1x1x64_S32x4096x64_0_1_2 : S1x1x64.BroadcastsInDim S32x4096x64 (![0, 1, 2] : Fin 3 → Fin S32x4096x64.rank)
  bcast_S_S32x4096x64 : S_.BroadcastsInDim S32x4096x64 (![] : Fin 0 → Fin S32x4096x64.rank)
  dot_S32x4096x512_S512x64_S32x4096x64_2_0_01_1_n_n_wf : DotDims.WF S32x4096x512 S512x64 S32x4096x64 [2] [0] [0, 1] [1] [] []

variable [Facts]

def dot_S32x4096x512_S512x64_S32x4096x64_2_0_01_1_n_n : DotDims S32x4096x512 S512x64 S32x4096x64 where
  lhsContracting := [2]
  rhsContracting := [0]
  lhsNonContracting := [0, 1]
  rhsNonContracting := [1]
  lhsBatch := []
  rhsBatch := []
  wf := dot_S32x4096x512_S512x64_S32x4096x64_2_0_01_1_n_n_wf
def fn {F : FTy → Type} [FloatOps F] (main_arg0 : FVec F S32x512x4096 .f32) (main_arg1 : FVec F S512x64 .f32) (main_arg2 : FVec F S64 .f32) (main_arg3 : FVec F S64x512 .f32) : IVec S32x4096x64 1 :=
  let main_v0 : FVec F S32x4096x512 .f32 := (transpose S32x4096x512 [0, 2, 1] · transposes_S32x512x4096_S32x4096x512_0_2_1) main_arg0
  let main_v1 : FVec F S32x4096x64 .f32 := (fun l r => Host.dotGeneral dot_S32x4096x512_S512x64_S32x4096x64_2_0_01_1_n_n none l r) main_v0 main_arg1
  let main_v2 : FVec F S1x1x64 .f32 := broadcastInDim S1x1x64 ![2] bcast_S64_S1x1x64_2 main_arg2
  let main_v3 : FVec F S32x4096x64 .f32 := broadcastInDim S32x4096x64 ![0, 1, 2] bcast_S1x1x64_S32x4096x64_0_1_2 main_v2
  let main_v4 : FVec F S32x4096x64 .f32 := addf main_v1 main_v3
  let main_cst : FVec F S_ .f32 := constant S_ .f32 0x7F800000#32
  let main_v5 : FVec F S32x4096x64 .f32 := broadcastInDim S32x4096x64 ![] bcast_S_S32x4096x64 main_cst
  let main_v6 : IVec S32x4096x64 1 := cmpf .olt main_v4 main_v5
  main_v6
-- ==== Kernel.lean ====
abbrev S32x512x4096 : Shape := ⟨3, ![32, 512, 4096]⟩
abbrev S512x64 : Shape := ⟨2, ![512, 64]⟩
abbrev S64 : Shape := ⟨1, ![64]⟩
abbrev S64x512 : Shape := ⟨2, ![64, 512]⟩
abbrev S1x64 : Shape := ⟨2, ![1, 64]⟩
abbrev S_ : Shape := ⟨0, ![]⟩
abbrev S15x64 : Shape := ⟨2, ![15, 64]⟩
abbrev S528x64 : Shape := ⟨2, ![528, 64]⟩
abbrev S32x512x64 : Shape := ⟨3, ![32, 512, 64]⟩
abbrev S1x512x4096 : Shape := ⟨3, ![1, 512, 4096]⟩
abbrev S2x512x64 : Shape := ⟨3, ![2, 512, 64]⟩
abbrev S528x4096 : Shape := ⟨2, ![528, 4096]⟩
abbrev S4096x64 : Shape := ⟨2, ![4096, 64]⟩
abbrev S16x4096 : Shape := ⟨2, ![16, 4096]⟩
abbrev S16x512 : Shape := ⟨2, ![16, 512]⟩
abbrev S512x4096 : Shape := ⟨2, ![512, 4096]⟩
abbrev S512x512 : Shape := ⟨2, ![512, 512]⟩
abbrev S528x512 : Shape := ⟨2, ![528, 512]⟩
abbrev S512 : Shape := ⟨1, ![512]⟩
abbrev S1x512 : Shape := ⟨2, ![1, 512]⟩
abbrev S1x512x64 : Shape := ⟨3, ![1, 512, 64]⟩
abbrev S1 : Shape := ⟨1, ![1]⟩
abbrev S1x1x1 : Shape := ⟨3, ![1, 1, 1]⟩
abbrev S1x1 : Shape := ⟨2, ![1, 1]⟩
abbrev S32x64x512 : Shape := ⟨3, ![32, 64, 512]⟩
abbrev S32x32768 : Shape := ⟨2, ![32, 32768]⟩

abbrev nBuf : Space → Nat
  | .hbm => 13
  | .vmem => 12
  | .smem => 0
  | _ => 0

abbrev bufTy : (tb : Table) → Fin (tcTables nBuf tb) → BufTy
  | .hbm, ⟨0, _⟩ => ⟨S32x512x4096, .f32⟩
  | .hbm, ⟨1, _⟩ => ⟨S512x64, .f32⟩
  | .hbm, ⟨2, _⟩ => ⟨S64, .f32⟩
  | .hbm, ⟨3, _⟩ => ⟨S64x512, .f32⟩
  | .hbm, ⟨4, _⟩ => ⟨S1x64, .f32⟩
  | .hbm, ⟨5, _⟩ => ⟨S_, .f32⟩
  | .hbm, ⟨6, _⟩ => ⟨S15x64, .f32⟩
  | .hbm, ⟨7, _⟩ => ⟨S528x64, .f32⟩
  | .hbm, ⟨8, _⟩ => ⟨S528x64, .bf16⟩
  | .hbm, ⟨9, _⟩ => ⟨S512x64, .f32⟩
  | .hbm, ⟨10, _⟩ => ⟨S32x512x64, .f32⟩
  | .hbm, ⟨11, _⟩ => ⟨S32x64x512, .f32⟩
  | .hbm, ⟨12, _⟩ => ⟨S32x32768, .f32⟩
  | .local _ .vmem, ⟨0, _⟩ => ⟨S1x512x4096, .f32⟩
  | .local _ .vmem, ⟨1, _⟩ => ⟨S1x512x4096, .f32⟩
  | .local _ .vmem, ⟨2, _⟩ => ⟨S1x512x4096, .f32⟩
  | .local _ .vmem, ⟨3, _⟩ => ⟨S1x512x4096, .f32⟩
  | .local _ .vmem, ⟨4, _⟩ => ⟨S528x64, .bf16⟩
  | .local _ .vmem, ⟨5, _⟩ => ⟨S512x64, .f32⟩
  | .local _ .vmem, ⟨6, _⟩ => ⟨S2x512x64, .f32⟩
  | .local _ .vmem, ⟨7, _⟩ => ⟨S2x512x64, .f32⟩
  | .local _ .vmem, ⟨8, _⟩ => ⟨S528x4096, .bf16⟩
  | .local _ .vmem, ⟨9, _⟩ => ⟨S528x4096, .bf16⟩
  | .local _ .vmem, ⟨10, _⟩ => ⟨S4096x64, .bf16⟩
  | .local _ .vmem, ⟨11, _⟩ => ⟨S4096x64, .bf16⟩
  | _, _ => ⟨S32x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S528x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32x512x4096 : Shape := ⟨3, ![32, 512, 4096]⟩
abbrev S512x64 : Shape := ⟨2, ![512, 64]⟩
abbrev S64 : Shape := ⟨1, ![64]⟩
abbrev S64x512 : Shape := ⟨2, ![64, 512]⟩
abbrev S32x4096x512 : Shape := ⟨3, ![32, 4096, 512]⟩
abbrev S32x4096x64 : Shape := ⟨3, ![32, 4096, 64]⟩
abbrev S1x1x64 : Shape := ⟨3, ![1, 1, 64]⟩
abbrev S_ : Shape := ⟨0, ![]⟩
abbrev S32x4096 : Shape := ⟨2, ![32, 4096]⟩
abbrev S32x4096x1 : Shape := ⟨3, ![32, 4096, 1]⟩
abbrev S32x64x512 : Shape := ⟨3, ![32, 64, 512]⟩
abbrev S32x64 : Shape := ⟨2, ![32, 64]⟩
abbrev S32x64x1 : Shape := ⟨3, ![32, 64, 1]⟩
abbrev S1x64x512 : Shape := ⟨3, ![1, 64, 512]⟩
abbrev S32x32768 : Shape := ⟨2, ![32, 32768]⟩
abbrev S32 : Shape := ⟨1, ![32]⟩
abbrev S32x1 : Shape := ⟨2, ![32, 1]⟩

abbrev nBuf : Space → Nat
  | .hbm => 53
  | .vmem => 0
  | .smem => 0
  | _ => 0

abbrev bufTy : (tb : Table) → Fin (tcTables nBuf tb) → BufTy
  | .hbm, ⟨0, _⟩ => ⟨S32x512x4096, .f32⟩
  | .hbm, ⟨1, _⟩ => ⟨S512x64, .f32⟩
  | .hbm, ⟨2, _⟩ => ⟨S64, .f32⟩
  | .hbm, ⟨3, _⟩ => ⟨S64x512, .f32⟩
  | .hbm, ⟨4, _⟩ => ⟨S32x4096x512, .f32⟩
  | .hbm, ⟨5, _⟩ => ⟨S32x4096x64, .f32⟩
  | .hbm, ⟨6, _⟩ => ⟨S1x1x64, .f32⟩
  | .hbm, ⟨7, _⟩ => ⟨S32x4096x64, .f32⟩
  | .hbm, ⟨8, _⟩ => ⟨S32x4096x64, .f32⟩
  | .hbm, ⟨9, _⟩ => ⟨S_, .f32⟩
  | .hbm, ⟨10, _⟩ => ⟨S32x4096, .f32⟩
  | .hbm, ⟨11, _⟩ => ⟨S_, .f32⟩
  | .hbm, ⟨12, _⟩ => ⟨S32x4096, .f32⟩
  | .hbm, ⟨13, _⟩ => ⟨S32x4096, .f32⟩
  | .hbm, ⟨14, _⟩ => ⟨S32x4096x1, .f32⟩
  | .hbm, ⟨15, _⟩ => ⟨S32x4096x64, .f32⟩
  | .hbm, ⟨16, _⟩ => ⟨S32x4096x64, .f32⟩
  | .hbm, ⟨17, _⟩ => ⟨S32x4096x64, .f32⟩
  | .hbm, ⟨18, _⟩ => ⟨S_, .f32⟩
  | .hbm, ⟨19, _⟩ => ⟨S32x4096, .f32⟩
  | .hbm, ⟨20, _⟩ => ⟨S32x4096x1, .f32⟩
  | .hbm, ⟨21, _⟩ => ⟨S32x4096x64, .f32⟩
  | .hbm, ⟨22, _⟩ => ⟨S32x4096x64, .f32⟩
  | .hbm, ⟨23, _⟩ => ⟨S32x64x512, .f32⟩
  | .hbm, ⟨24, _⟩ => ⟨S_, .f32⟩
  | .hbm, ⟨25, _⟩ => ⟨S32x64, .f32⟩
  | .hbm, ⟨26, _⟩ => ⟨S32x64x1, .f32⟩
  | .hbm, ⟨27, _⟩ => ⟨S1x64x512, .f32⟩
  | .hbm, ⟨28, _⟩ => ⟨S32x64x512, .f32⟩
  | .hbm, ⟨29, _⟩ => ⟨S32x64x512, .f32⟩
  | .hbm, ⟨30, _⟩ => ⟨S32x64x512, .f32⟩
  | .hbm, ⟨31, _⟩ => ⟨S32x64x512, .f32⟩
  | .hbm, ⟨32, _⟩ => ⟨S32x64x512, .f32⟩
  | .hbm, ⟨33, _⟩ => ⟨S_, .f32⟩
  | .hbm, ⟨34, _⟩ => ⟨S32x64, .f32⟩
  | .hbm, ⟨35, _⟩ => ⟨S32x64x1, .f32⟩
  | .hbm, ⟨36, _⟩ => ⟨S32x64x1, .f32⟩
  | .hbm, ⟨37, _⟩ => ⟨S_, .f32⟩
  | .hbm, ⟨38, _⟩ => ⟨S32x64x1, .f32⟩
  | .hbm, ⟨39, _⟩ => ⟨S32x64x1, .f32⟩
  | .hbm, ⟨40, _⟩ => ⟨S32x64x512, .f32⟩
  | .hbm, ⟨41, _⟩ => ⟨S32x64x512, .f32⟩
  | .hbm, ⟨42, _⟩ => ⟨S32x32768, .f32⟩
  | .hbm, ⟨43, _⟩ => ⟨S32x32768, .f32⟩
  | .hbm, ⟨44, _⟩ => ⟨S_, .f32⟩
  | .hbm, ⟨45, _⟩ => ⟨S32, .f32⟩
  | .hbm, ⟨46, _⟩ => ⟨S32x1, .f32⟩
  | .hbm, ⟨47, _⟩ => ⟨S32x1, .f32⟩
  | .hbm, ⟨48, _⟩ => ⟨S_, .f32⟩
  | .hbm, ⟨49, _⟩ => ⟨S32x1, .f32⟩
  | .hbm, ⟨50, _⟩ => ⟨S32x1, .f32⟩
  | .hbm, ⟨51, _⟩ => ⟨S32x32768, .f32⟩
  | .hbm, ⟨52, _⟩ => ⟨S32x32768, .f32⟩
  | _, _ => ⟨S32x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_cst : Ref sig .tc := ⟨.hbm, 33, rfl⟩
abbrev main_call0_v1 : Ref sig .tc := ⟨.hbm, 34, rfl⟩
abbrev main_call0_v2 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call1_v0 : Ref sig .tc := ⟨.hbm, 43, rfl⟩
abbrev main_call1_cst : Ref sig .tc := ⟨.hbm, 44, rfl⟩
abbrev main_call1_v1 : Ref sig .tc := ⟨.hbm, 45, rfl⟩
abbrev main_call1_v2 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== Proof.Block.lean ====
/-
  What one block of the kernel computes, in plain sums: the augmented plane of one batch entry, the
  soft assignment of its columns, and the block that is stored.
-/
module

public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.KernelIdeal.Block

open Idealize.ShloMosaic Cert.KernelIdeal Cert.KernelIdeal.Gen

/-- The plane of one batch entry with sixteen rows of ones below its 512 rows. -/
def xAug (x : Vec Ideal S1x512x4096 .f32) : Vec Ideal S528x4096 .bf16 :=
  fun y => if h : (y 0).val < 512 then x (ix3 0 ⟨(y 0).val, h⟩ (y 1)) else (1 : EReal)

/-- The logit of column `n` for cluster `q`: the augmented weights' column times the augmented plane's. -/
def logit (w : Vec Ideal S528x64 .bf16) (x : Vec Ideal S1x512x4096 .f32) (n : Fin 4096) (q : Fin 64) : EReal :=
  ∑ k : Fin 528, w (ix2 k q) * xAug x (ix2 k n)

/-- The soft assignment of column `n` to cluster `q`: the exponential of its logit over the sum of all 64. -/
def assign (w : Vec Ideal S528x64 .bf16) (x : Vec Ideal S1x512x4096 .f32) : Vec Ideal S4096x64 .bf16 :=
  fun y => Ideal.div (Ideal.exp (logit w x (y 0) (y 1))) (∑ q : Fin 64, Ideal.exp (logit w x (y 0) q))

/-- The small positive number that both normalisations divide by at least. -/
def eps : EReal := Ideal.ofBits .f32 0x2B8CBCCC#32

/-- Row `k` of the augmented plane against the assignments to cluster `q`, summed over the columns. -/
def pooled (X : Vec Ideal S528x4096 .bf16) (A : Vec Ideal S4096x64 .bf16) (k : Fin 528) (q : Fin 64) : EReal :=
  ∑ n : Fin 4096, X (ix2 k n) * A (ix2 n q)

/-- The residual sum: the pooled row less the pooled row of ones times the cluster's centre. -/
def resid (mu : Vec Ideal S512x64 .f32) (X : Vec Ideal S528x4096 .bf16) (A : Vec Ideal S4096x64 .bf16)
    (f : Fin 512) (q : Fin 64) : EReal :=
  pooled X A ⟨f.val, by omega⟩ q - pooled X A 512 q * mu (ix2 f q)

/-- The residual sum divided by the norm of its cluster's column. -/
def unit1 (mu : Vec Ideal S512x64 .f32) (X : Vec Ideal S528x4096 .bf16) (A : Vec Ideal S4096x64 .bf16)
    (f : Fin 512) (q : Fin 64) : EReal :=
  Ideal.div (resid mu X A f q) (max (Ideal.sqrt (∑ g : Fin 512, resid mu X A g q * resid mu X A g q)) eps)

/-- The stored block: `unit1` divided by the norm of all its entries. -/
def unit2 (mu : Vec Ideal S512x64 .f32) (X : Vec Ideal S528x4096 .bf16) (A : Vec Ideal S4096x64 .bf16)
    (f : Fin 512) (q : Fin 64) : EReal :=
  Ideal.div (unit1 mu X A f q)
    (max (Ideal.sqrt (∑ g : Fin 512, ∑ r : Fin 64, unit1 mu X A g r * unit1 mu X A g r)) eps)

/-- The value stored for the first batch entry of a block is `unit2`, entry by entry. -/
theorem pay55_at (mu : Vec Ideal S512x64 .f32) (X : Vec Ideal S528x4096 .bf16) (A : Vec Ideal S4096x64 .bf16)
    (j : S1x512x64.Idx) : k0_pay55 (F := Ideal) mu X A j = unit2 mu X A (j 1) (j 2) := by
  idx_vars j
  pointwise [k0_pay55, unit2, unit1, resid, pooled, eps]

/-- The values stored for the second batch entry are computed as those for the first. -/
theorem pay1_eq (mu : Vec Ideal S512x64 .f32) (X : Vec Ideal S528x4096 .bf16) (A : Vec Ideal S4096x64 .bf16) :
    k0_pay1 (F := Ideal) mu X A = k0_pay55 (F := Ideal) mu X A := rfl

/-- The centres' block is read as it is. -/
theorem pay5_eq (mu : Vec Ideal S512x64 .f32) : k0_pay5 (F := Ideal) mu = mu := by
  funext j; idx_vars j; pointwise [k0_pay5]

/-- The augmented weights' block is read as it is. -/
theorem pay4_eq (w : Vec Ideal S528x64 .bf16) : k0_pay4 (F := Ideal) w = w := by
  funext j; idx_vars j; pointwise [k0_pay4]

/-- Columns `512 k` to `512 k + 511` of the plane. -/
def cut (x : Vec Ideal S1x512x4096 .f32) (k : Fin 8) : FVec Ideal S512x512 .bf16 :=
  truncf .bf16 (extractStridedSlice S512x512 ![0, 512 * k.val] (shapeCast S512x4096 x shapeCasts_S1x512x4096_S512x4096)
    (by fin_cases k <;> decide)) bitsLt_bf16_f32

/-- The stores that lay the plane down, 512 columns each, the last store first. -/
def xPieces (x : Vec Ideal S1x512x4096 .f32) : List (View.Piece (Elt Ideal) S528x4096 .bf16) :=
  List.ofFn fun k : Fin 8 => ⟨Rect.unit ![0, 512 * k.rev.val] ![512, 512] (by fin_cases k <;> decide),
    shapeCast S512x512 (cut x k.rev) shapeCasts_S512x512_S512x512⟩

/-- The stores that lay the soft assignments down, 512 columns of the plane each, the last store first. -/
def aPieces (w : Vec Ideal S528x64 .bf16) (x : Vec Ideal S1x512x4096 .f32) : List (View.Piece (Elt Ideal) S4096x64 .bf16) :=
  List.ofFn fun k : Fin 8 => ⟨Rect.unit ![512 * k.rev.val, 0] ![512, 64] (by fin_cases k <;> decide),
    k0_pay12 (F := Ideal) w k0_pay6 (cut x k.rev)⟩

/-- A stored piece of the plane, at its own index. -/
theorem cut_at (x : Vec Ideal S1x512x4096 .f32) (k : Fin 8) (f n : Fin 512) :
    cut x k (ix2 f n) = x (ix3 0 f ⟨512 * k.val + n.val, by omega⟩) := by
  pointwise [cut]

/-- A stored piece of the assignments, at its own index. -/
theorem soft_at (w : Vec Ideal S528x64 .bf16) (x : Vec Ideal S1x512x4096 .f32) (k : Fin 8) (n : Fin 512) (q : Fin 64) :
    k0_pay12 (F := Ideal) w k0_pay6 (cut x k) (ix2 n q) = assign w x (ix2 ⟨512 * k.val + n.val, by omega⟩ q) := by
  pointwise [k0_pay12, k0_pay6, assign, logit, xAug, cut_at]

end Cert.KernelIdeal.Block

end
-- ==== Proof.Stores.lean ====
/-
  What the scratch buffers hold when the second product reads them, and the block that a grid point
  leaves: the same closed form at the first point, which writes the rows of ones, and at the later
  points, which find them there.
-/
module

public import proofs.«01_k».proof.Proof.Gen.KernelIdeal.Frame
public import proofs.«01_k».proof.Proof.Block

@[expose] public section

set_option maxRecDepth 16384

noncomputable section

namespace Cert.KernelIdeal.Block

open Idealize.ShloMosaic Idealize.ShloMosaic.TcCoe Cert.KernelIdeal Cert.KernelIdeal.Gen

/-- What is stored of the plane is the augmented plane where it is stored. -/
theorem xPieces_at (x : Vec Ideal S1x512x4096 .f32) :
    ∀ p ∈ xPieces x, ∀ z : p.1.shape.Idx, p.2 z = xAug x (p.1.emb z) := by
  intro p hp z
  obtain ⟨k, rfl⟩ := (List.mem_ofFn' _ _).mp hp
  obtain ⟨f, n, rfl⟩ : ∃ (f n : Fin 512), z = ix2 f n := ⟨z 0, z 1, by funext a; fin_cases a <;> rfl⟩
  have hs : shapeCast S512x512 (cut x k.rev) shapeCasts_S512x512_S512x512 (ix2 f n) = cut x k.rev (ix2 f n) := by
    pointwise
  refine hs.trans ((cut_at x k.rev f n).trans ?_)
  have hf : ((Rect.unit (s := S528x4096) ![0, 512 * k.rev.val] ![512, 512] (by fin_cases k <;> decide)).emb (ix2 f n) 0 : Nat) < 512 := by
    rw [Rect.emb_apply]; show 0 + 1 * f.val < 512; omega
  unfold xAug
  rw [dif_pos hf]
  congr 1
  funext a
  fin_cases a
  · rfl
  · refine Fin.ext ?_; show f.val = 0 + 1 * f.val; omega
  · refine Fin.ext ?_; show 512 * k.rev.val + n.val = 512 * k.rev.val + 1 * n.val; omega

/-- The stores of the plane reach every element of its 512 rows. -/
theorem xPieces_cover (x : Vec Ideal S1x512x4096 .f32) (y : S528x4096.Idx) (hy : (y 0).val < 512) :
    ∃ p ∈ xPieces x, y ∈ p.1.set := by
  have h1 : (y 1).val < 4096 := (y 1).isLt
  refine ⟨_, (List.mem_ofFn' _ _).mpr ⟨(⟨(y 1).val / 512, by omega⟩ : Fin 8).rev, rfl⟩, ?_⟩
  rw [Rect.mem_set_unit]
  intro a
  simp only [Fin.rev_rev]
  fin_cases a
  · exact ⟨Nat.zero_le _, hy.trans_eq (by rfl)⟩
  · show 512 * ((y 1).val / 512) ≤ (y 1).val ∧ (y 1).val < 512 * ((y 1).val / 512) + 512
    omega

/-- A buffer whose rows from 512 on are ones, after the stores of the plane, reads as the augmented plane. -/
theorem read_xPieces {κ : Kind} {sp : Space} (v : View sig κ sp S528x4096 .bf16) (g : v.ty.Contents (Elt Ideal))
    (x : Vec Ideal S1x512x4096 .f32)
    (hg : ∀ y : S528x4096.Idx, 512 ≤ (y 0).val → v.read (Elt Ideal) g y = (1 : EReal)) :
    v.read (Elt Ideal) (v.writes (Elt Ideal) g (xPieces x)) = xAug x := by
  funext y
  by_cases hy : (y 0).val < 512
  · exact View.read_writes_apply_of_pieces v g (xAug x) (xPieces x) (xPieces_at x) y (xPieces_cover x y hy)
  · rw [View.read_writes_apply_of_forall_not_mem v g y, hg y (by omega)]
    · simp only [xAug, dif_neg hy]
    · intro p hp
      obtain ⟨k, rfl⟩ := (List.mem_ofFn' _ _).mp hp
      refine Rect.not_mem_set_of_axis _ y 0 0 512 rfl rfl rfl ?_
      omega

/-- The store that lays the rows of ones down. -/
def onesPiece : View.Piece (Elt Ideal) S528x4096 .bf16 :=
  ⟨Rect.unit ![512, 0] ![16, 4096] inb_S528x4096_S16x4096_512_0, k0_pay2 (F := Ideal)⟩

/-- The ones, then the plane: the augmented plane. -/
theorem canon_xPieces (x : Vec Ideal S1x512x4096 .f32) : View.canon (xPieces x ++ [onesPiece]) = xAug x := by
  rw [← View.read_writes_junk_eq_canon (View.whole cc0_scratch0), View.writes_append]
  refine read_xPieces _ _ x fun y hy => ?_
  have h0 : (y 0).val < 528 := (y 0).isLt
  have h1 : (y 1).val < 4096 := (y 1).isLt
  refine View.read_writes_apply_of_pieces (View.whole cc0_scratch0) _ (fun _ => (1 : EReal)) [onesPiece] ?_ y ?_
  · intro p hp z
    obtain rfl := List.mem_singleton.mp hp
    show k0_pay2 (F := Ideal) z = 1
    pointwise [k0_pay2]
  · refine ⟨_, List.mem_singleton_self _, ?_⟩
    rw [onesPiece, Rect.mem_set_unit]
    intro a
    fin_cases a
    · show 512 ≤ (y 0).val ∧ (y 0).val < 512 + 16
      omega
    · show 0 ≤ (y 1).val ∧ (y 1).val < 0 + 4096
      omega

/-- After the stores of the assignments, the buffer reads as the soft assignment of all columns. -/
theorem canon_aPieces (w : Vec Ideal S528x64 .bf16) (x : Vec Ideal S1x512x4096 .f32) :
    View.canon (aPieces w x) = assign w x := by
  funext y
  unfold aPieces
  canon_tiles z h
  · obtain ⟨n, q, rfl⟩ : ∃ (n : Fin 512) (q : Fin 64), z = ix2 n q := ⟨z 0, z 1, by funext a; fin_cases a <;> rfl⟩
    rw [soft_at]
    congr 1
    funext a
    fin_cases a
    · exact Fin.ext h0.symm
    · exact Fin.ext h1.symm
  · have h0 : (y 0).val < 4096 := (y 0).isLt
    have h1 : (y 1).val < 64 := (y 1).isLt
    refine ⟨(⟨(y 0).val / 512, by omega⟩ : Fin 8).rev, fun a => ?_⟩
    simp only [Fin.rev_rev]
    fin_cases a
    · show 512 * ((y 0).val / 512) ≤ (y 0).val ∧ (y 0).val < 512 * ((y 0).val / 512) + 512
      omega
    · show 0 ≤ (y 1).val ∧ (y 1).val < 0 + 64
      omega

variable (m : (ℓ : Loc nD τ sig) → Buf (Elt Ideal) ℓ) (c : Dev nD)

/-- The batch entry of half `s` of point `t`'s block. -/
def plane (t : Fin cfg0.N) (s : Fin 2) : Vec Ideal S1x512x4096 .f32 := if s.val = 0 then iblk m c 0 t else iblk m c 1 t

/-- The block a point leaves: per batch entry, the normalised residual sums. -/
def stored (t : Fin cfg0.N) : Vec Ideal S2x512x64 .f32 :=
  fun y => unit2 (iblk m c 3 t) (xAug (plane m c t (y 0))) (assign (iblk m c 2 t) (plane m c t (y 0))) (y 1) (y 2)

/-- The two stores of a point's block, the second batch entry's first. -/
def blockPieces (mu : Vec Ideal S512x64 .f32) (X0 X1 : Vec Ideal S528x4096 .bf16) (A0 A1 : Vec Ideal S4096x64 .bf16) :
    List (View.Piece (Elt Ideal) S2x512x64 .f32) :=
  [⟨Rect.unit ![1, 0, 0] ![1, 512, 64] inb_S2x512x64_S1x512x64_1_0_0, k0_pay1 (F := Ideal) mu X1 A1⟩,
   ⟨Rect.unit ![0, 0, 0] ![1, 512, 64] inb_S2x512x64_S1x512x64_0_0_0, k0_pay55 (F := Ideal) mu X0 A0⟩]

/-- From the closed forms of the scratch buffers, those two stores leave `stored`. -/
theorem canon_blockPieces (t : Fin cfg0.N) (mu : Vec Ideal S512x64 .f32) (X0 X1 : Vec Ideal S528x4096 .bf16)
    (A0 A1 : Vec Ideal S4096x64 .bf16) (hmu : mu = iblk m c 3 t) (hX0 : X0 = xAug (iblk m c 0 t))
    (hX1 : X1 = xAug (iblk m c 1 t)) (hA0 : A0 = assign (iblk m c 2 t) (iblk m c 0 t))
    (hA1 : A1 = assign (iblk m c 2 t) (iblk m c 1 t)) : View.canon (blockPieces mu X0 X1 A0 A1) = stored m c t := by
  subst hmu hX0 hX1 hA0 hA1
  funext y
  unfold blockPieces stored
  canon_tiles z h
  · have e : plane m c t (y 0) = iblk m c 1 t := if_neg (by omega)
    rw [pay1_eq, pay55_at, e, Fin.ext h1, Fin.ext h2]
  · have e : plane m c t (y 0) = iblk m c 0 t := if_pos (by omega)
    rw [pay55_at, e, Fin.ext h1, Fin.ext h2]

/-- A load of the whole plane buffer reads what the stores left. -/
theorem readCov_plane {sp : Space} {κ : Kind} (v : View sig κ sp S528x4096 .bf16) (L : List (View.Piece (Elt Ideal) S528x4096 .bf16)) :
    v.readCov L (Rect.unit ![0, 0] ![528, 4096] inb_S528x4096_S528x4096_0_0).toLoadRect = View.canon L := by
  rw [View.readCov_eq_canon']
  funext j
  congr 1
  funext a
  fin_cases a <;> exact Fin.ext (by simp)

/-- A load of the whole assignment buffer reads what the stores left. -/
theorem readCov_assign {sp : Space} {κ : Kind} (v : View sig κ sp S4096x64 .bf16) (w : Vec Ideal S528x64 .bf16)
    (x : Vec Ideal S1x512x4096 .f32) :
    v.readCov (aPieces (k0_pay4 w) x) (Rect.unit ![0, 0] ![4096, 64] inb_S4096x64_S4096x64_0_0).toLoadRect = assign w x := by
  rw [View.readCov_eq_canon', pay4_eq, canon_aPieces]
  funext j
  congr 1
  funext a
  fin_cases a <;> exact Fin.ext (by simp)

/-- The first point leaves the closed forms. -/
theorem outsAt_first (t : Fin cfg0.N) (h0 : t.val % 16 = 0) :
    outsAt0 m c t.val t.isLt = (stored m c t, xAug (iblk m c 0 t), xAug (iblk m c 1 t)) := by
  rw [outsAt0_A m c t h0]
  have e0 := canon_xPieces (iblk m c 0 t)
  have e1 := canon_xPieces (iblk m c 1 t)
  refine Prod.ext ?_ (Prod.ext ?_ ?_)
  · dsimp only
    frame_out
    exact canon_blockPieces m c t _ _ _ _ _ (pay5_eq _) ((readCov_plane (View.whole cc0_scratch0) _).trans e0)
      ((readCov_plane (View.whole cc0_scratch1) _).trans e1)
      (readCov_assign (View.whole cc0_scratch2) (iblk m c 2 t) (iblk m c 0 t))
      (readCov_assign (View.whole cc0_scratch3) (iblk m c 2 t) (iblk m c 1 t))
  · dsimp only
    frame_out
    exact e0
  · dsimp only
    frame_out
    exact e1

/-- A later point leaves the closed forms too, where the point before it left its rows of ones. -/
theorem outsAt_later (t : Fin cfg0.N) (h0 : ¬ t.val % 16 = 0) (x0 x1 : Vec Ideal S1x512x4096 .f32)
    (hprev : ∀ h, (outsAt0 m c (t.val - 1) h).2 = (xAug x0, xAug x1)) :
    outsAt0 m c t.val t.isLt = (stored m c t, xAug (iblk m c 0 t), xAug (iblk m c 1 t)) := by
  rw [outsAt0_B m c t h0]
  have ones : ∀ (x : Vec Ideal S1x512x4096 .f32) (y : S528x4096.Idx), 512 ≤ (y 0).val → xAug x y = (1 : EReal) :=
    fun x y hy => dif_neg (by omega)
  refine Prod.ext ?_ (Prod.ext ?_ ?_)
  · dsimp only
    frame_out
    refine canon_blockPieces m c t _ _ _ _ _ (pay5_eq _) ?_ ?_
      (readCov_assign (View.whole cc0_scratch2) (iblk m c 2 t) (iblk m c 0 t))
      (readCov_assign (View.whole cc0_scratch3) (iblk m c 2 t) (iblk m c 1 t))
    · refine read_xPieces (View.whole cc0_scratch0) _ (iblk m c 0 t) fun y hy => ?_
      erw [Memref.IsWhole.read_unread]
      rw [hprev]
      exact ones _ _ hy
    · refine read_xPieces (View.whole cc0_scratch1) _ (iblk m c 1 t) fun y hy => ?_
      erw [Memref.IsWhole.read_unread]
      rw [hprev]
      exact ones _ _ hy
  · dsimp only
    frame_out
    refine read_xPieces (View.whole cc0_scratch0) _ (iblk m c 0 t) fun y hy => ?_
    erw [Memref.IsWhole.read_unread]
    rw [hprev]
    exact ones _ _ hy
  · dsimp only
    frame_out
    refine read_xPieces (View.whole cc0_scratch1) _ (iblk m c 1 t) fun y hy => ?_
    erw [Memref.IsWhole.read_unread]
    rw [hprev]
    exact ones _ _ hy

/-- Every point leaves the closed forms. -/
theorem outsAt (n : Nat) (hn : n < cfg0.N) :
    outsAt0 m c n hn = (stored m c ⟨n, hn⟩, xAug (iblk m c 0 ⟨n, hn⟩), xAug (iblk m c 1 ⟨n, hn⟩)) := by
  have hN : cfg0.N = 16 := N_0
  induction n with
  | zero => exact outsAt_first m c ⟨0, hn⟩ rfl
  | succ n ih =>
    have hl := ih (Nat.lt_of_succ_lt hn)
    exact outsAt_later m c ⟨n + 1, hn⟩ (by show ¬ (n + 1) % 16 = 0; omega) (iblk m c 0 ⟨n, Nat.lt_of_succ_lt hn⟩)
      (iblk m c 1 ⟨n, Nat.lt_of_succ_lt hn⟩) fun h => congrArg Prod.snd hl

end Cert.KernelIdeal.Block

end
-- ==== Proof.Final.lean ====
/-
  The array that the grid leaves, in terms of the four arguments.
-/
module

public import proofs.«01_k».proof.Proof.Stores
public import Idealize.ShloMosaic.Lib.Claim

@[expose] public section

set_option maxRecDepth 16384

noncomputable section

namespace Cert.KernelIdeal.Block

open Idealize.ShloMosaic Idealize.ShloMosaic.TcCoe Cert.KernelIdeal Cert.KernelIdeal.Gen

/-- The weights, the bias as row 512, and fifteen rows of zeros. -/
def wAug (W : Vec Ideal S512x64 .f32) (b : Vec Ideal S64 .f32) : Vec Ideal S528x64 .bf16 :=
  fun y => if h : (y 0).val < 512 then W (ix2 ⟨(y 0).val, h⟩ (y 1)) else if (y 0).val = 512 then b (ix1 (y 1)) else (0 : EReal)

/-- The centres, feature first. -/
def muT (mu : Vec Ideal S64x512 .f32) : Vec Ideal S512x64 .f32 := fun y => mu (ix2 (y 1) (y 0))

/-- One batch entry of the planes. -/
def slab (x : Vec Ideal S32x512x4096 .f32) (b : Fin 32) : Vec Ideal S1x512x4096 .f32 := fun y => x (ix3 b (y 1) (y 2))

/-- The array the grid leaves. -/
def grid (x : Vec Ideal S32x512x4096 .f32) (W : Vec Ideal S512x64 .f32) (b : Vec Ideal S64 .f32) (mu : Vec Ideal S64x512 .f32) :
    Vec Ideal S32x512x64 .f32 :=
  fun y => unit2 (muT mu) (xAug (slab x (y 0))) (assign (wAug W b) (slab x (y 0))) (y 1) (y 2)

variable (m : (ℓ : Loc nD τ sig) → Buf (Elt Ideal) ℓ) (c : Dev nD)

/-- The augmented weights as the host lays them down. -/
def wRows (W : Vec Ideal S512x64 .f32) (b : Vec Ideal S64 .f32) : Vec Ideal S528x64 .bf16 :=
  truncf .bf16 (concatenate S528x64 0 [⟨S512x64, W⟩, ⟨S1x64, broadcastInDim S1x64 ![1] bcast_S64_S1x64_1 b⟩,
    ⟨S15x64, broadcastInDim S15x64 ![] bcast_S_S15x64 (constant (F := Ideal) S_ .f32 0x00000000#32)⟩]
    concatenates_S512x64_S1x64_S15x64_S528x64_d0) bitsLt_bf16_f32

/-- They are the weights, the bias, and zeros. -/
theorem wRows_eq (W : Vec Ideal S512x64 .f32) (b : Vec Ideal S64 .f32) : wRows W b = wAug W b := by
  funext y
  idx_vars y
  pointwise [wRows, wAug]
  by_cases h : y0.val < 512
  · rw [dif_pos h, dif_pos h]
  · rw [dif_neg h, dif_neg h]
    by_cases h' : y0.val = 512
    · rw [dif_pos (by omega), if_pos h']
    · rw [dif_neg (by omega), if_neg h']

/-- At region entry the third operand is the augmented weights. -/
theorem V_weights : V m c main_v3 = wAug (m ((c : Thread nD τ).loc main_arg1)) (m ((c : Thread nD τ).loc main_arg2)) :=
  Eq.trans (by rfl) (wRows_eq (m ((c : Thread nD τ).loc main_arg1)) (m ((c : Thread nD τ).loc main_arg2)))

/-- At region entry the fourth operand is the centres, feature first. -/
theorem V_centres : V m c main_v4 = muT (m ((c : Thread nD τ).loc main_arg3)) := by
  show StableHlo.after hostOps0 (fun b => m (c, b)) main_v4 = _
  entry_read
  funext y
  idx_vars y
  pointwise [muT]

/-- The index maps, point by point. -/
theorem idx (t : Fin cfg0.N) : win0_0.index t = ![2 * t.val, 0, 0] ∧ win0_1.index t = ![2 * t.val + 1, 0, 0]
    ∧ win0_2.index t = ![0, 0] ∧ win0_3.index t = ![0, 0] ∧ win0_4.index t = ![t.val, 0, 0] :=
  (by decide +kernel : ∀ t : Fin grid0.N, win0_0.index t = ![2 * t.val, 0, 0] ∧ win0_1.index t = ![2 * t.val + 1, 0, 0]
    ∧ win0_2.index t = ![0, 0] ∧ win0_3.index t = ![0, 0] ∧ win0_4.index t = ![t.val, 0, 0]) t

/-- The first window's block is an even batch entry. -/
theorem iblk0 (t : Fin cfg0.N) (b : Fin 32) (hb : b.val = 2 * t.val) :
    iblk m c 0 t = slab (m ((c : Thread nD τ).loc main_arg0)) b := by
  funext y
  idx_vars y
  unfold slab
  show V m c main_arg0 _ = _
  rw [V_main_arg0]
  blk_ext [idx t]

/-- The second window's block is the odd batch entry after it. -/
theorem iblk1 (t : Fin cfg0.N) (b : Fin 32) (hb : b.val = 2 * t.val + 1) :
    iblk m c 1 t = slab (m ((c : Thread nD τ).loc main_arg0)) b := by
  funext y
  idx_vars y
  unfold slab
  show V m c main_arg0 _ = _
  rw [V_main_arg0]
  blk_ext [idx t]

/-- The third window's block is the augmented weights, at every point. -/
theorem iblk2 (t : Fin cfg0.N) :
    iblk m c 2 t = wAug (m ((c : Thread nD τ).loc main_arg1)) (m ((c : Thread nD τ).loc main_arg2)) := by
  rw [← V_weights m c]
  funext y
  idx_vars y
  show V m c main_v3 _ = V m c main_v3 _
  blk_ext [idx t]

/-- The fourth window's block is the centres, at every point. -/
theorem iblk3 (t : Fin cfg0.N) : iblk m c 3 t = muT (m ((c : Thread nD τ).loc main_arg3)) := by
  rw [← V_centres m c]
  funext y
  idx_vars y
  show V m c main_v4 _ = V m c main_v4 _
  blk_ext [idx t]

/-- A batch entry of a point's block is the batch entry of that number. -/
theorem plane_eq (t : Fin cfg0.N) (s : Fin 2) (b : Fin 32) (hb : b.val = 2 * t.val + s.val) :
    plane m c t s = slab (m ((c : Thread nD τ).loc main_arg0)) b := by
  unfold plane
  by_cases h : s.val = 0
  · rw [if_pos h, iblk0 m c t b (by omega)]
  · rw [if_neg h, iblk1 m c t b (by omega)]

/-- The array the grid leaves is `grid` of the arguments. -/
theorem final : (dats m 0 c).arrAt 4 cfg0.N
    = grid (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  blk_simp
  rw [after0_4, outsAt]
  have e0 : ((win0_4.blk t).view.emb y 0 : Nat) = 2 * t.val + (y 0).val := by
    blk_simp [idx t]
    omega
  have e1 : ((win0_4.blk t).view.emb y 1 : Nat) = (y 1).val := by
    blk_simp [idx t]
  have e2 : ((win0_4.blk t).view.emb y 2 : Nat) = (y 2).val := by
    blk_simp [idx t]
  show stored m c t y = _
  unfold stored grid
  rw [plane_eq m c t (y 0) _ e0, iblk2, iblk3]
  congr 1
  · exact Fin.ext e1.symm
  · exact Fin.ext e2.symm

end Cert.KernelIdeal.Block

end
-- ==== Proof.Tail.lean ====
/-
  The kernel's run, its result array named by the arguments.
-/
module

public import proofs.«01_k».proof.Proof.Final

@[expose] public section

set_option maxRecDepth 16384

noncomputable section

namespace Cert.KernelIdeal.Block

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The result: the grid's array, cluster first, laid out flat. -/
def result (x : Vec Ideal S32x512x4096 .f32) (W : Vec Ideal S512x64 .f32) (b : Vec Ideal S64 .f32) (mu : Vec Ideal S64x512 .f32) :
    Vec Ideal S32x32768 .f32 :=
  shapeCast S32x32768 (transpose S32x64x512 [0, 2, 1] (grid x W b mu) transposes_S32x512x64_S32x64x512_0_2_1)
    shapeCasts_S32x64x512_S32x32768

/-- An entry of the result: cluster `p / 512`, feature `p % 512`. -/
theorem result_at (x : Vec Ideal S32x512x4096 .f32) (W : Vec Ideal S512x64 .f32) (b : Vec Ideal S64 .f32)
    (mu : Vec Ideal S64x512 .f32) (n : Fin 32) (p : Fin 32768) :
    result x W b mu (ix2 n p) = unit2 (muT mu) (xAug (slab x n)) (assign (wAug W b) (slab x n))
      ⟨p.val % 512, by omega⟩ ⟨p.val / 512, by omega⟩ := by
  pointwise [result, grid]

/-- The host's operations after the grid leave `result` of the arguments. -/
theorem tail_eq (c : Dev nD) : Pipeline.afterTail₀ cfgs (dats m) 0 (V0 m) [hostOps1] c main_v7
    = result (m ((c : Thread nD τ).loc main_arg0)) (m ((c : Thread nD τ).loc main_arg1)) (m ((c : Thread nD τ).loc main_arg2))
      (m ((c : Thread nD τ).loc main_arg3)) := by
  unfold Pipeline.afterTail₀
  show StableHlo.after hostOps1 _ (Proc.devRef .tc main_v7) = _
  after_results
  have shared : ∀ w w' : Fin 5, w ≠ w' → Pipeline.arrRef (cfgs 0).spec w = Pipeline.arrRef (cfgs 0).spec w' →
      (dats m 0 c).arrAt w (cfgs 0).N = V0 m c (Proc.devRef .tc (Pipeline.arrRef (cfgs 0).spec w)) := by
    intro w w' hne he
    have hin : w = 0 ∨ w = 1 := by revert w w'; decide
    rcases hin with rfl | rfl
    · exact ((dats m 0 c).arrAt_in 0 rfl _).trans (A_eq m c 0)
    · exact ((dats m 0 c).arrAt_in 1 rfl _).trans (A_eq m c 1)
  have e : Pipeline.withArrays (cfgs 0).spec c (V0 m c) (fun w => (dats m 0 c).arrAt w (cfgs 0).N) (Proc.devRef .tc main_v5) = _ :=
    (Pipeline.withArrays_arr_shared (cfgs 0).spec c (V0 m c) (fun w => (dats m 0 c).arrAt w (cfgs 0).N) shared 4).trans (final m c)
  exact congrArg (fun A => shapeCast S32x32768 (transpose S32x64x512 [0, 2, 1] A transposes_S32x512x64_S32x64x512_0_2_1)
    shapeCasts_S32x64x512_S32x32768) e

/-- The kernel's run leaves `result` of the arguments, and the arguments as they were. -/
theorem run : θ_run defs (onTc (τ := τ) (main (F := Ideal))) ⟨m, fun _ => 0, ρ⟩ fun r => ∀ c : Dev nD,
    r.2.mem ((c : Thread nD τ).loc main_v7) = result (m ((c : Thread nD τ).loc main_arg0)) (m ((c : Thread nD τ).loc main_arg1))
      (m ((c : Thread nD τ).loc main_arg2)) (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) := by
  run_from Gen.run_main m ρ
  · exact tail_eq m c
  · exact W_main_arg1 m (dats m) c
  · exact W_main_arg2 m (dats m) c
  · exact W_main_arg3 m (dats m) c

end Cert.KernelIdeal.Block

end
-- ==== Proof.Softmax.lean ====
/-
  Subtracting the maximum first leaves a softmax as it is, over the extended reals, as long as no
  logit is `⊤`.
-/
module

public import Idealize.ShloMosaic.PureOps.Ideal

@[expose] public section

noncomputable section

namespace Cert.Softmax

open Idealize.ShloMosaic

/-- Scaling the numerator and the denominator by the same positive real leaves a quotient as it is. -/
theorem div_mul_right (a s : EReal) (r : ℝ) (hr : 0 < r) : Ideal.div (a * r) (s * r) = Ideal.div a s := by
  have hr0 : (0 : EReal) < r := EReal.coe_pos.mpr hr
  have hpos : 0 < a * r ↔ 0 < a := by
    induction a with
    | bot => simp [EReal.bot_mul_coe_of_pos hr]
    | top => simp [EReal.top_mul_coe_of_pos hr]
    | coe a =>
      rw [← EReal.coe_mul, EReal.coe_pos, EReal.coe_pos]
      exact mul_pos_iff_of_pos_right hr
  unfold Ideal.div
  by_cases hs : s = 0
  · simp only [hs, zero_mul, if_true, hpos]
  · have hsr : s * r ≠ 0 := mul_ne_zero hs hr0.ne'
    rw [if_neg hs, if_neg hsr, EReal.mul_inv, mul_mul_mul_comm, ← EReal.coe_inv, ← EReal.coe_mul,
      mul_inv_cancel₀ hr.ne', EReal.coe_one, mul_one]

/-- The exponential of a difference from a real number. -/
theorem exp_sub (l : EReal) (r : ℝ) (hl : l ≠ ⊤) : Ideal.exp (l - r) = Ideal.exp l * ((Real.exp (-r) : ℝ) : EReal) := by
  induction l with
  | bot => simp
  | top => exact absurd rfl hl
  | coe l => rw [← EReal.coe_sub, Ideal.exp_coe, Ideal.exp_coe, ← EReal.coe_mul, ← Real.exp_add, sub_eq_add_neg]

/-- An exponential is not negative. -/
theorem exp_nonneg (l : EReal) : 0 ≤ Ideal.exp l := by
  induction l with
  | bot => simp
  | top => exact le_top
  | coe l => rw [Ideal.exp_coe]; exact EReal.coe_nonneg.mpr (Real.exp_pos l).le

/-- Softmax with any `mx` subtracted that is at least every logit and is one of them. -/
theorem softmax_sub {ι : Type} [Fintype ι] (l : ι → EReal) (mx : EReal) (hl : ∀ q, l q ≠ ⊤) (hle : ∀ q, l q ≤ mx) (hex : ∃ q, l q = mx) (q : ι) :
    Ideal.div (Ideal.exp (l q - mx)) (∑ r, Ideal.exp (l r - mx)) = Ideal.div (Ideal.exp (l q)) (∑ r, Ideal.exp (l r)) := by
  obtain ⟨q0, h0⟩ := hex
  induction mx with
  | top => exact absurd h0 (hl q0)
  | bot =>
    have hb : ∀ r, l r = ⊥ := fun r => le_bot_iff.mp (hle r)
    simp [hb]
  | coe r =>
    have hsum : ∀ S : Finset ι, ∑ s ∈ S, Ideal.exp (l s - r) = (∑ s ∈ S, Ideal.exp (l s)) * ((Real.exp (-r) : ℝ) : EReal) := by
      intro S
      induction S using Finset.cons_induction with
      | empty => simp
      | cons a S ha ih =>
        rw [Finset.sum_cons, Finset.sum_cons, ih, exp_sub _ _ (hl a), EReal.right_distrib_of_nonneg (exp_nonneg _) (Finset.sum_nonneg fun i _ => exp_nonneg _)]
    rw [hsum Finset.univ, exp_sub _ _ (hl q), div_mul_right _ _ _ (Real.exp_pos _)]

end Cert.Softmax

end
-- ==== Proof.Reference.lean ====
/-
  The reference, stage by stage: the logits, the softmax over the clusters, the residual sums and the
  two normalisations, each read at an index.
-/
module

public import proofs.«01_k».proof.Proof.Gen.ReferenceIdeal.Run
public import Idealize.ShloMosaic.Lib.Pointwise
public import Idealize.ShloMosaic.Lib.Claim
public import proofs.«01_k».proof.Proof.Softmax

@[expose] public section

set_option maxRecDepth 16384

noncomputable section

namespace Cert.ReferenceIdeal.Stages

open Idealize.ShloMosaic Idealize.ShloMosaic.TcCoe Cert.ReferenceIdeal Cert.ReferenceIdeal.Gen

/-- The planes, column first. -/
def columns (x : FVec Ideal S32x512x4096 .f32) : FVec Ideal S32x4096x512 .f32 :=
  transpose S32x4096x512 [0, 2, 1] x transposes_S32x512x4096_S32x4096x512_0_2_1

/-- The logits. -/
def logits (x : FVec Ideal S32x512x4096 .f32) (W : FVec Ideal S512x64 .f32) (b : FVec Ideal S64 .f32) : FVec Ideal S32x4096x64 .f32 :=
  addf (Host.dotGeneral dot_S32x4096x512_S512x64_S32x4096x64_2_0_01_1_n_n none (columns x) W)
    (broadcastInDim S32x4096x64 ![0, 1, 2] bcast_S1x1x64_S32x4096x64_0_1_2 (broadcastInDim S1x1x64 ![2] bcast_S64_S1x1x64_2 b))

/-- The largest logit of each column. -/
def largest (L : FVec Ideal S32x4096x64 .f32) : FVec Ideal S32x4096 .f32 :=
  maximumf (broadcastInDim S32x4096 ![] bcast_S_S32x4096 (constant S_ .f32 0xFF800000#32))
    (Host.reduce FloatOps.maximumf L (constant S_ .f32 0xFF800000#32) reducesTo_S32x4096x64_S32x4096_d2 h_S_)

/-- The exponentials of the logits less the largest of their column. -/
def exps (L : FVec Ideal S32x4096x64 .f32) (M : FVec Ideal S32x4096 .f32) : FVec Ideal S32x4096x64 .f32 :=
  Host.exp (subf L (broadcastInDim S32x4096x64 ![0, 1, 2] bcast_S32x4096x1_S32x4096x64_0_1_2
    (broadcastInDim S32x4096x1 ![0, 1] bcast_S32x4096_S32x4096x1_0_1 M)))

/-- The exponentials over their sum. -/
def shares (E : FVec Ideal S32x4096x64 .f32) : FVec Ideal S32x4096x64 .f32 :=
  Host.divf E (broadcastInDim S32x4096x64 ![0, 1, 2] bcast_S32x4096x1_S32x4096x64_0_1_2
    (broadcastInDim S32x4096x1 ![0, 1] bcast_S32x4096_S32x4096x1_0_1
      (Host.reduceAdd E (constant S_ .f32 0x00000000#32) reducesTo_S32x4096x64_S32x4096_d2 h_S_)))

/-- The residual sums. -/
def residuals (A : FVec Ideal S32x4096x64 .f32) (XT : FVec Ideal S32x4096x512 .f32) (mu : FVec Ideal S64x512 .f32) :
    FVec Ideal S32x64x512 .f32 :=
  subf (Host.dotGeneral dot_S32x4096x64_S32x4096x512_S32x64x512_1_1_2_2_0_0 none A XT)
    (mulf (broadcastInDim S32x64x512 ![0, 1, 2] bcast_S32x64x1_S32x64x512_0_1_2
        (broadcastInDim S32x64x1 ![0, 1] bcast_S32x64_S32x64x1_0_1
          (Host.reduceAdd A (constant S_ .f32 0x00000000#32) reducesTo_S32x4096x64_S32x64_d1 h_S_)))
      (broadcastInDim S32x64x512 ![0, 1, 2] bcast_S1x64x512_S32x64x512_0_1_2
        (broadcastInDim S1x64x512 ![1, 2] bcast_S64x512_S1x64x512_1_2 mu)))

/-- The residual sums over the norm of their cluster. -/
def intra (V : FVec Ideal S32x64x512 .f32) : FVec Ideal S32x64x512 .f32 :=
  Host.divf V (broadcastInDim S32x64x512 ![0, 1, 2] bcast_S32x64x1_S32x64x512_0_1_2
    (maximumf (Host.sqrt (broadcastInDim S32x64x1 ![0, 1] bcast_S32x64_S32x64x1_0_1
        (Host.reduceAdd (mulf V V) (constant S_ .f32 0x00000000#32) reducesTo_S32x64x512_S32x64_d2 h_S_)))
      (broadcastInDim S32x64x1 ![] bcast_S_S32x64x1 (constant S_ .f32 0x2B8CBCCC#32))))

/-- All entries of a batch entry in one row. -/
def flat (U : FVec Ideal S32x64x512 .f32) : FVec Ideal S32x32768 .f32 :=
  shapeCast S32x32768 U shapeCasts_S32x64x512_S32x32768

/-- A row over its norm. -/
def whole (U : FVec Ideal S32x32768 .f32) : FVec Ideal S32x32768 .f32 :=
  Host.divf U (broadcastInDim S32x32768 ![0, 1] bcast_S32x1_S32x32768_0_1
    (maximumf (Host.sqrt (broadcastInDim S32x1 ![0] bcast_S32_S32x1_0
        (Host.reduceAdd (mulf U U) (constant S_ .f32 0x00000000#32) reducesTo_S32x32768_S32_d1 h_S_)))
      (broadcastInDim S32x1 ![] bcast_S_S32x1 (constant S_ .f32 0x2B8CBCCC#32))))

/-- The soft assignment. -/
def soft (L : FVec Ideal S32x4096x64 .f32) : FVec Ideal S32x4096x64 .f32 := shares (exps L (largest L))

/-- The reference's result is those stages in turn. -/
theorem res_eq (m : (ℓ : Loc nD τ sig) → Buf (Elt Ideal) ℓ) (c : Dev nD) :
    Value.res_main_v34 m c = whole (flat (intra (residuals
      (soft (logits (m ((c.tc : Thread nD τ).loc main_arg0)) (m ((c.tc : Thread nD τ).loc main_arg1)) (m ((c.tc : Thread nD τ).loc main_arg2))))
      (columns (m ((c.tc : Thread nD τ).loc main_arg0))) (m ((c.tc : Thread nD τ).loc main_arg3))))) := rfl

/-- A logit. -/
theorem logits_at (x : FVec Ideal S32x512x4096 .f32) (W : FVec Ideal S512x64 .f32) (b : FVec Ideal S64 .f32)
    (n : Fin 32) (t : Fin 4096) (q : Fin 64) :
    logits x W b (ix3 n t q) = (∑ k : Fin 512, x (ix3 n k t) * W (ix2 k q)) + b (ix1 q) := by
  pointwise [logits, columns]

/-- An exponential. -/
theorem exps_at (L : FVec Ideal S32x4096x64 .f32) (M : FVec Ideal S32x4096 .f32) (n : Fin 32) (t : Fin 4096) (q : Fin 64) :
    exps L M (ix3 n t q) = Ideal.exp (L (ix3 n t q) - M (ix2 n t)) := by
  pointwise [exps]

/-- A share. -/
theorem shares_at (E : FVec Ideal S32x4096x64 .f32) (n : Fin 32) (t : Fin 4096) (q : Fin 64) :
    shares E (ix3 n t q) = Ideal.div (E (ix3 n t q)) (∑ r : Fin 64, E (ix3 n t r)) := by
  pointwise [shares]

/-- The bit pattern that the maximum starts from is `⊥`. -/
theorem start_eq : Ideal.ofBits .f32 0xFF800000#32 = ⊥ := by simp [Ideal.ofBits, Ideal.ieee]

/-- A fold of the maximum from `⊥` is the supremum. -/
theorem fold_sup {ι : Type} (s : Finset ι) (f : ι → EReal) :
    s.fold (FloatOps.maximumf (F := Ideal) (φ := .f32)) (Ideal.ofBits .f32 0xFF800000#32) f = s.sup f := by
  rw [start_eq]; rfl

/-- The host's maximum along the last of three axes is the supremum along it. -/
theorem reduce_last {n0 n1 n2 : Nat} {t u : Shape} (h : (⟨3, ![n0, n1, n2]⟩ : Shape).ReducesTo [2] t) (hu : 0 < u.numel)
    (x : FVec Ideal ⟨3, ![n0, n1, n2]⟩ .f32) (j : t.Idx) :
    Host.reduce FloatOps.maximumf x (constant u .f32 0xFF800000#32) h hu j
      = Finset.univ.sup fun k : Fin n2 => x (ix3 ⟨(j ⟨0, h.lt_r3_a2_0⟩).val, Shape.coordLt (j ⟨0, h.lt_r3_a2_0⟩) h.size_r3_a2_0⟩
          ⟨(j ⟨1, h.lt_r3_a2_1⟩).val, Shape.coordLt (j ⟨1, h.lt_r3_a2_1⟩) h.size_r3_a2_1⟩ k) := by
  rw [Host.reduce_eq_fold, Shape.ReducesTo.fold_fiber_r3_a2]
  exact fold_sup Finset.univ _

/-- The host's maximum over the clusters is a supremum. -/
theorem reduce_at (L : FVec Ideal S32x4096x64 .f32) (n : Fin 32) (t : Fin 4096) :
    Host.reduce FloatOps.maximumf L (constant S_ .f32 0xFF800000#32) reducesTo_S32x4096x64_S32x4096_d2 h_S_ (ix2 n t)
      = Finset.univ.sup fun q : Fin 64 => L (ix3 n t q) :=
  reduce_last (n0 := 32) (n1 := 4096) (n2 := 64) (t := S32x4096) (u := S_) reducesTo_S32x4096x64_S32x4096_d2 h_S_ L (ix2 n t)

/-- The largest logit of a column is the supremum of its logits. -/
theorem largest_at (L : FVec Ideal S32x4096x64 .f32) (n : Fin 32) (t : Fin 4096) :
    largest L (ix2 n t) = Finset.univ.sup fun q : Fin 64 => L (ix3 n t q) := by
  have e : ∀ R : FVec Ideal S32x4096 .f32, maximumf (broadcastInDim S32x4096 ![] bcast_S_S32x4096 (constant S_ .f32 0xFF800000#32)) R (ix2 n t)
     = R (ix2 n t) := by
    intro R
    pointwise
    rw [start_eq]
    exact bot_sup_eq _
  exact (e _).trans (reduce_at L n t)

/-- Where no logit of a column is `⊤`, its soft assignment is the softmax without the maximum. -/
theorem soft_at (L : FVec Ideal S32x4096x64 .f32) (n : Fin 32) (t : Fin 4096) (hL : ∀ q : Fin 64, L (ix3 n t q) ≠ ⊤) (q : Fin 64) :
    soft L (ix3 n t q) = Ideal.div (Ideal.exp (L (ix3 n t q))) (∑ r : Fin 64, Ideal.exp (L (ix3 n t r))) := by
  unfold soft
  simp only [shares_at, exps_at, largest_at]
  obtain ⟨q0, _, h0⟩ := Finset.exists_mem_eq_sup Finset.univ Finset.univ_nonempty fun q : Fin 64 => L (ix3 n t q)
  exact Softmax.softmax_sub (fun q : Fin 64 => L (ix3 n t q)) _ hL (fun q => Finset.le_sup (f := fun q : Fin 64 => L (ix3 n t q))
    (Finset.mem_univ q)) ⟨q0, h0.symm⟩ q

/-- A residual sum. -/
theorem residuals_at (A : FVec Ideal S32x4096x64 .f32) (x : FVec Ideal S32x512x4096 .f32) (mu : FVec Ideal S64x512 .f32)
    (n : Fin 32) (q : Fin 64) (f : Fin 512) :
    residuals A (columns x) mu (ix3 n q f) = (∑ t : Fin 4096, A (ix3 n t q) * x (ix3 n f t)) - (∑ t : Fin 4096, A (ix3 n t q)) * mu (ix2 q f) := by
  pointwise [residuals, columns]

/-- An entry over the norm of its cluster. -/
theorem intra_at (V : FVec Ideal S32x64x512 .f32) (n : Fin 32) (q : Fin 64) (f : Fin 512) :
    intra V (ix3 n q f) = Ideal.div (V (ix3 n q f))
      (max (Ideal.sqrt (∑ g : Fin 512, V (ix3 n q g) * V (ix3 n q g))) (Ideal.ofBits .f32 0x2B8CBCCC#32)) := by
  pointwise [intra]

/-- Entry `p` of a row is that of cluster `p / 512` and feature `p % 512`. -/
theorem flat_at (U : FVec Ideal S32x64x512 .f32) (n : Fin 32) (p : Fin 32768) :
    flat U (ix2 n p) = U (ix3 n ⟨p.val / 512, by omega⟩ ⟨p.val % 512, by omega⟩) := by
  pointwise [flat]

/-- An entry over the norm of its row. -/
theorem whole_at (U : FVec Ideal S32x32768 .f32) (n : Fin 32) (p : Fin 32768) :
    whole U (ix2 n p) = Ideal.div (U (ix2 n p))
      (max (Ideal.sqrt (∑ s : Fin 32768, U (ix2 n s) * U (ix2 n s))) (Ideal.ofBits .f32 0x2B8CBCCC#32)) := by
  pointwise [whole]

end Cert.ReferenceIdeal.Stages

end
-- ==== Proof.Agree.lean ====
/-
  The kernel's result and the reference's are the same function of the arguments, where no logit is `⊤`.
-/
module

public import proofs.«01_k».proof.Proof.Tail
public import proofs.«01_k».proof.Proof.Reference

@[expose] public section

set_option maxRecDepth 16384

noncomputable section

namespace Cert.Agree

open Idealize.ShloMosaic Cert.KernelIdeal.Block
open Cert.ReferenceIdeal Cert.ReferenceIdeal.Stages

/-- A sum over the augmented weights' 528 rows: the 512 weights' terms, and the bias. -/
theorem logit_eq (x : FVec Ideal S32x512x4096 .f32) (W : FVec Ideal S512x64 .f32) (b : FVec Ideal S64 .f32)
    (n : Fin 32) (t : Fin 4096) (q : Fin 64) :
    logit (wAug W b) (slab x n) t q = logits x W b (ix3 n t q) := by
  rw [logits_at]
  unfold logit
  rw [show (∑ k : Fin 528, wAug W b (ix2 k q) * xAug (slab x n) (ix2 k t))
      = ∑ k : Fin (512 + 16), wAug W b (ix2 k q) * xAug (slab x n) (ix2 k t) from rfl, Fin.sum_univ_add]
  congr 1
  · refine Finset.sum_congr rfl fun k _ => ?_
    have hw : wAug W b (ix2 (Fin.castAdd 16 k) q) = W (ix2 k q) := dif_pos k.isLt
    have hx : xAug (slab x n) (ix2 (Fin.castAdd 16 k) t) = x (ix3 n k t) := dif_pos k.isLt
    rw [hw, hx, mul_comm]
  · have hx : ∀ k : Fin 16, xAug (slab x n) (ix2 (Fin.natAdd 512 k) t) = (1 : EReal) := fun k =>
      dif_neg (by show ¬ 512 + k.val < 512; omega)
    have hw : ∀ k : Fin 16, wAug W b (ix2 (Fin.natAdd 512 k) q) = if k.val = 0 then b (ix1 q) else (0 : EReal) := by
      intro k
      refine (dif_neg (by show ¬ 512 + k.val < 512; omega)).trans ?_
      refine if_congr ?_ rfl rfl
      show 512 + k.val = 512 ↔ k.val = 0
      omega
    simp only [hx, hw, mul_one]
    rw [Fin.sum_univ_succ]
    simp

variable (x : FVec Ideal S32x512x4096 .f32) (W : FVec Ideal S512x64 .f32) (b : FVec Ideal S64 .f32)

/-- The soft assignments agree. -/
theorem assign_eq (hL : ∀ n t q, logits x W b (ix3 n t q) ≠ ⊤) (n : Fin 32) (t : Fin 4096) (q : Fin 64) :
    assign (wAug W b) (slab x n) (ix2 t q) = soft (logits x W b) (ix3 n t q) := by
  rw [soft_at _ n t (hL n t) q]
  show Ideal.div (Ideal.exp (logit (wAug W b) (slab x n) t q)) (∑ r : Fin 64, Ideal.exp (logit (wAug W b) (slab x n) t r)) = _
  simp only [logit_eq]

variable (mu : FVec Ideal S64x512 .f32)

/-- The residual sums agree. -/
theorem resid_eq (hL : ∀ n t q, logits x W b (ix3 n t q) ≠ ⊤) (n : Fin 32) (f : Fin 512) (q : Fin 64) :
    resid (muT mu) (xAug (slab x n)) (assign (wAug W b) (slab x n)) f q
      = residuals (soft (logits x W b)) (columns x) mu (ix3 n q f) := by
  rw [residuals_at]
  have h1 : pooled (xAug (slab x n)) (assign (wAug W b) (slab x n)) ⟨f.val, by omega⟩ q
      = ∑ t : Fin 4096, soft (logits x W b) (ix3 n t q) * x (ix3 n f t) := by
    refine Finset.sum_congr rfl fun t _ => ?_
    have hx : xAug (slab x n) (ix2 ⟨f.val, by omega⟩ t) = x (ix3 n f t) := dif_pos f.isLt
    rw [hx, assign_eq x W b hL, mul_comm]
  have h2 : pooled (xAug (slab x n)) (assign (wAug W b) (slab x n)) 512 q
      = ∑ t : Fin 4096, soft (logits x W b) (ix3 n t q) := by
    refine Finset.sum_congr rfl fun t _ => ?_
    have hx : xAug (slab x n) (ix2 512 t) = (1 : EReal) := dif_neg (by show ¬ (512 : Fin 528).val < 512; decide)
    rw [hx, assign_eq x W b hL, one_mul]
  unfold resid
  rw [h1, h2]
  rfl

/-- The entries over the norm of their cluster agree. -/
theorem unit1_eq (hL : ∀ n t q, logits x W b (ix3 n t q) ≠ ⊤) (n : Fin 32) (f : Fin 512) (q : Fin 64) :
    unit1 (muT mu) (xAug (slab x n)) (assign (wAug W b) (slab x n)) f q
      = intra (residuals (soft (logits x W b)) (columns x) mu) (ix3 n q f) := by
  rw [intra_at]
  unfold unit1
  simp only [resid_eq x W b mu hL]
  rfl

/-- A sum over a flat row is the sum over features and clusters. -/
theorem sum_flat (g : Fin 64 → Fin 512 → EReal) :
    ∑ s : Fin 32768, g ⟨s.val / 512, by omega⟩ ⟨s.val % 512, by omega⟩ = ∑ f : Fin 512, ∑ q : Fin 64, g q f := by
  rw [Finset.sum_comm, ← Finset.sum_product', Finset.univ_product_univ]
  exact Fintype.sum_equiv (finProdFinEquiv (m := 64) (n := 512)).symm
    (fun s : Fin 32768 => g ⟨s.val / 512, by omega⟩ ⟨s.val % 512, by omega⟩) (fun p => g p.1 p.2) fun s => rfl

/-- The results agree. -/
theorem result_eq (hL : ∀ n t q, logits x W b (ix3 n t q) ≠ ⊤) :
    result x W b mu = whole (flat (intra (residuals (soft (logits x W b)) (columns x) mu))) := by
  funext y
  obtain ⟨n, p, rfl⟩ : ∃ (n : Fin 32) (p : Fin 32768), y = ix2 n p := ⟨y 0, y 1, by funext a; fin_cases a <;> rfl⟩
  rw [result_at, whole_at]
  unfold unit2
  simp only [flat_at, unit1_eq x W b mu hL]
  rw [sum_flat fun q f => intra (residuals (soft (logits x W b)) (columns x) mu) (ix3 n q f)
    * intra (residuals (soft (logits x W b)) (columns x) mu) (ix3 n q f)]
  rfl

end Cert.Agree

end
-- ==== Proof.Pre.lean ====
/-
  The precondition read as a statement about each logit.
-/
module

public import proofs.«01_k».proof.Pre_logits_below_infinity
public import Idealize.ShloMosaic.Lib.Pointwise

@[expose] public section

set_option maxRecDepth 16384

noncomputable section

namespace Cert.Pre_logits_below_infinity

open Idealize.ShloMosaic Cert.Pre_logits_below_infinity

/-- The shapes the precondition names fit together. -/
theorem facts : Facts where
  transposes_S32x512x4096_S32x4096x512_0_2_1 := by decide
  bcast_S64_S1x1x64_2 := by decide
  bcast_S1x1x64_S32x4096x64_0_1_2 := by decide
  bcast_S_S32x4096x64 := by decide
  dot_S32x4096x512_S512x64_S32x4096x64_2_0_01_1_n_n_wf := by decide

variable [hfacts : Facts]

/-- The precondition says of every logit that it is not `⊤`. -/
theorem ne_top (x : FVec Ideal S32x512x4096 .f32) (W : FVec Ideal S512x64 .f32) (b : FVec Ideal S64 .f32) (mu : FVec Ideal S64x512 .f32)
    (h : fn (F := Ideal) x W b mu = fun _ => 1#1) (n : Fin 32) (t : Fin 4096) (q : Fin 64) :
    (∑ k : Fin 512, x (ix3 n k t) * W (ix2 k q)) + b (ix1 q) ≠ ⊤ := by
  have e := congrFun h (ix3 n t q)
  revert e
  pointwise [fn]
  intro e ht
  rw [ht] at e
  simp [not_top_lt] at e

end Cert.Pre_logits_below_infinity

end
-- ==== Proof.lean ====
/-
  The claims: the kernel, its idealization and the reference each run to the end and leave their
  arguments and semaphores as they were, and the idealized kernel's result is the reference's,
  element by element, where no logit is `⊤`.
-/
module

public import proofs.«01_k».proof.Defs
public import proofs.«01_k».proof.Proof.Gen.Kernel.Frame
public import proofs.«01_k».proof.Proof.Gen.KernelIdeal.Frame
public import proofs.«01_k».proof.Proof.Agree
public import proofs.«01_k».proof.Proof.Pre
public import Idealize.ShloMosaic.Lib.Claim

@[expose] public section

noncomputable section

namespace Cert.Proof

open Idealize.ShloMosaic Idealize.SL.Sem

/-- The reference runs, and leaves its arguments and semaphores as they were. -/
theorem reference_frame : Cert.quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.ReferenceIdeal.Value.run m g)

/-- The idealized kernel's result is the reference's, where no logit is `⊤`. -/
theorem algebraic : Cert.algebraic_KernelIdeal_ReferenceIdeal_pre_logits_below_infinity
    (hKernelIdeal := Cert.KernelIdeal.Gen.facts) (hReferenceIdeal := Cert.ReferenceIdeal.Gen.facts)
    (hPre_logits_below_infinity := Cert.Pre_logits_below_infinity.facts) := by
  intro m g m' g' hpre hagree
  refine ⟨_, Cert.KernelIdeal.Block.run m g, ?_⟩
  refine (θ_run _ _ _).mono (fun r h c => ⟨?_, (h c).2⟩) (Cert.ReferenceIdeal.Value.run m' g')
  obtain ⟨e0, e1, e2, e3⟩ := hagree c
  refine (h c).1.trans ((Cert.ReferenceIdeal.Stages.res_eq m' c).trans ?_)
  rw [e0, e1, e2, e3]
  refine (Cert.Agree.result_eq _ _ _ _ fun n t q => ?_).symm
  rw [Cert.ReferenceIdeal.Stages.logits_at]
  exact Cert.Pre_logits_below_infinity.ne_top (hfacts := Cert.Pre_logits_below_infinity.facts) _ _ _ _ (hpre c) n t q

/-- Every claim. -/
theorem claim : Cert.Claim :=
  ⟨Cert.Kernel.Gen.facts, Cert.KernelIdeal.Gen.facts, Cert.ReferenceIdeal.Gen.facts, Cert.Pre_logits_below_infinity.facts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    algebraic⟩

end Cert.Proof

end
